-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S32x224x224x3 : Shape := ⟨4, ![32, 224, 224, 3]⟩
abbrev S3x3x1x64 : Shape := ⟨4, ![3, 3, 1, 64]⟩
abbrev S_ : Shape := ⟨0, ![]⟩

class Facts : Prop where
  bcast_S_S32x224x224x3 : S_.BroadcastsInDim S32x224x224x3 (![] : Fin 0 → Fin S32x224x224x3.rank)

variable [Facts]

def fn {F : FTy → Type} [FloatOps F] (main_arg0 : FVec F S32x224x224x3 .f32) (main_arg1 : FVec F S3x3x1x64 .f32) : IVec S32x224x224x3 1 :=
  let main_v0 : FVec F S32x224x224x3 .f32 := Host.absf main_arg0
  let main_cst : FVec F S_ .f32 := constant S_ .f32 0x7F800000#32
  let main_v1 : FVec F S32x224x224x3 .f32 := broadcastInDim S32x224x224x3 ![] bcast_S_S32x224x224x3 main_cst
  let main_v2 : IVec S32x224x224x3 1 := cmpf .olt main_v0 main_v1
  main_v2
-- ==== Kernel.lean ====
abbrev S32x224x224x3 : Shape := ⟨4, ![32, 224, 224, 3]⟩
abbrev S3x3x1x64 : Shape := ⟨4, ![3, 3, 1, 64]⟩
abbrev S32x3x224x224 : Shape := ⟨4, ![32, 3, 224, 224]⟩
abbrev S_ : Shape := ⟨0, ![]⟩
abbrev S32x3x226x226 : Shape := ⟨4, ![32, 3, 226, 226]⟩
abbrev S32x224x224 : Shape := ⟨3, ![32, 224, 224]⟩
abbrev S32x1x224 : Shape := ⟨3, ![32, 1, 224]⟩
abbrev S1x3x226x226 : Shape := ⟨4, ![1, 3, 226, 226]⟩
abbrev S1x224x224 : Shape := ⟨3, ![1, 224, 224]⟩
abbrev S1x1x224 : Shape := ⟨3, ![1, 1, 224]⟩
abbrev S3x226x226 : Shape := ⟨3, ![3, 226, 226]⟩
abbrev S224x224 : Shape := ⟨2, ![224, 224]⟩
abbrev S224 : Shape := ⟨1, ![224]⟩
abbrev S1x224 : Shape := ⟨2, ![1, 224]⟩
abbrev S32x226x226 : Shape := ⟨3, ![32, 226, 226]⟩
abbrev S32x232x226 : Shape := ⟨3, ![32, 232, 226]⟩
abbrev S9x64 : Shape := ⟨2, ![9, 64]⟩
abbrev S1x1 : Shape := ⟨2, ![1, 1]⟩
abbrev S32x224x224x64 : Shape := ⟨4, ![32, 224, 224, 64]⟩
abbrev S1x232x226 : Shape := ⟨3, ![1, 232, 226]⟩
abbrev S1x56x224x64 : Shape := ⟨4, ![1, 56, 224, 64]⟩
abbrev S1x64x226 : Shape := ⟨3, ![1, 64, 226]⟩
abbrev S64x226 : Shape := ⟨2, ![64, 226]⟩
abbrev S56x224 : Shape := ⟨2, ![56, 224]⟩
abbrev S1x56x224 : Shape := ⟨3, ![1, 56, 224]⟩
abbrev S9x56x224 : Shape := ⟨3, ![9, 56, 224]⟩
abbrev S56x224x64 : Shape := ⟨3, ![56, 224, 64]⟩

abbrev nBuf : Space → Nat
  | .hbm => 19
  | .vmem => 11
  | .smem => 1
  | _ => 0

abbrev bufTy : (tb : Table) → Fin (tcTables nBuf tb) → BufTy
  | .hbm, ⟨0, _⟩ => ⟨S32x224x224x3, .f32⟩
  | .hbm, ⟨1, _⟩ => ⟨S3x3x1x64, .f32⟩
  | .hbm, ⟨2, _⟩ => ⟨S32x3x224x224, .f32⟩
  | .hbm, ⟨3, _⟩ => ⟨S_, .i32⟩
  | .hbm, ⟨4, _⟩ => ⟨S_, .f32⟩
  | .hbm, ⟨5, _⟩ => ⟨S32x3x226x226, .f32⟩
  | .hbm, ⟨6, _⟩ => ⟨S32x224x224, .f32⟩
  | .hbm, ⟨7, _⟩ => ⟨S32x1x224, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32x226x226, .f32⟩
  | .hbm, ⟨13, _⟩ => ⟨S_, .i32⟩
  | .hbm, ⟨14, _⟩ => ⟨S_, .f32⟩
  | .hbm, ⟨15, _⟩ => ⟨S32x232x226, .f32⟩
  | .hbm, ⟨16, _⟩ => ⟨S9x64, .f32⟩
  | .hbm, ⟨17, _⟩ => ⟨S1x1, .f32⟩
  | .hbm, ⟨18, _⟩ => ⟨S32x224x224x64, .f32⟩
  | .local _ .vmem, ⟨0, _⟩ => ⟨S1x3x226x226, .f32⟩
  | .local _ .vmem, ⟨1, _⟩ => ⟨S1x3x226x226, .f32⟩
  | .local _ .vmem, ⟨2, _⟩ => ⟨S1x224x224, .f32⟩
  | .local _ .vmem, ⟨3, _⟩ => ⟨S1x224x224, .f32⟩
  | .local _ .vmem, ⟨4, _⟩ => ⟨S1x1x224, .f32⟩
  | .local _ .vmem, ⟨5, _⟩ => ⟨S1x1x224, .f32⟩
  | .local _ .vmem, ⟨6, _⟩ => ⟨S1x232x226, .f32⟩
  | .local _ .vmem, ⟨7, _⟩ => ⟨S1x232x226, .f32⟩
  | .local _ .vmem, ⟨8, _⟩ => ⟨S9x64, .f32⟩
  | .local _ .vmem, ⟨9, _⟩ => ⟨S1x56x224x64, .f32⟩
  | .local _ .vmem, ⟨10, _⟩ => ⟨S1x56x224x64, .f32⟩
  | .local _ .smem, ⟨0, _⟩ => ⟨S1x1, .f32⟩
  | _, _ => ⟨S32x224x224x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x226x226 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![32, 4], ![false, false]⟩

def k1_mult1 (i : grid1.Coords) : BitVec 32 :=
  let arg1 : BitVec 32 := BitVec.ofNat 32 (i 1).val
  let c56_i32 : BitVec 32 := 56#32
  let v1 : BitVec 32 := Scalar.muli arg1 c56_i32
  v1
def k1_off1 (i : grid1.Coords) : Fin 3 → Nat :=
  let c0_1 : Index := 0#32
  let arg1 : BitVec 32 := BitVec.ofNat 32 (i 1).val
  let c56_i32 : BitVec 32 := 56#32
  let v1 : BitVec 32 := Scalar.muli arg1 c56_i32
  let v2 : BitVec 32 := v1
  let v3 : Index := Scalar.indexCast v2
  let c0_2 : Index := 0#32
  ![0, v3.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x232x226 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S9x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x56x224x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S32x224x224x3 : Shape := ⟨4, ![32, 224, 224, 3]⟩
abbrev S3x3x1x64 : Shape := ⟨4, ![3, 3, 1, 64]⟩
abbrev S_ : Shape := ⟨0, ![]⟩
abbrev S32x226x226x3 : Shape := ⟨4, ![32, 226, 226, 3]⟩
abbrev S32x224x224x1x3 : Shape := ⟨5, ![32, 224, 224, 1, 3]⟩
abbrev S32x224x224x9x3 : Shape := ⟨5, ![32, 224, 224, 9, 3]⟩
abbrev S32x224x224x27 : Shape := ⟨4, ![32, 224, 224, 27]⟩
abbrev S32x224x224x1 : Shape := ⟨4, ![32, 224, 224, 1]⟩
abbrev S32x224x224 : Shape := ⟨3, ![32, 224, 224]⟩
abbrev S1 : Shape := ⟨1, ![1]⟩
abbrev S1x1x1x1 : Shape := ⟨4, ![1, 1, 1, 1]⟩
abbrev S32x226x226x1 : Shape := ⟨4, ![32, 226, 226, 1]⟩
abbrev S32x224x224x64 : Shape := ⟨4, ![32, 224, 224, 64]⟩
abbrev S1x1x1x64 : Shape := ⟨4, ![1, 1, 1, 64]⟩
abbrev S64 : Shape := ⟨1, ![64]⟩

abbrev nBuf : Space → Nat
  | .hbm => 114
  | .vmem => 0
  | .smem => 0
  | _ => 0

abbrev bufTy : (tb : Table) → Fin (tcTables nBuf tb) → BufTy
  | .hbm, ⟨0, _⟩ => ⟨S32x224x224x3, .f32⟩
  | .hbm, ⟨1, _⟩ => ⟨S3x3x1x64, .f32⟩
  | .hbm, ⟨2, _⟩ => ⟨S_, .i32⟩
  | .hbm, ⟨3, _⟩ => ⟨S_, .f32⟩
  | .hbm, ⟨4, _⟩ => ⟨S32x226x226x3, .f32⟩
  | .hbm, ⟨5, _⟩ => ⟨S32x224x224x3, .f32⟩
  | .hbm, ⟨6, _⟩ => ⟨S32x224x224x3, .f32⟩
  | .hbm, ⟨7, _⟩ => ⟨S32x224x224x3, .f32⟩
  | .hbm, ⟨8, _⟩ => ⟨S32x224x224x3, .f32⟩
  | .hbm, ⟨9, _⟩ => ⟨S32x224x224x3, .f32⟩
  | .hbm, ⟨10, _⟩ => ⟨S32x224x224x3, .f32⟩
  | .hbm, ⟨11, _⟩ => ⟨S32x224x224x3, .f32⟩
  | .hbm, ⟨12, _⟩ => ⟨S32x224x224x3, .f32⟩
  | .hbm, ⟨13, _⟩ => ⟨S32x224x224x3, .f32⟩
  | .hbm, ⟨14, _⟩ => ⟨S32x224x224x1x3, .f32⟩
  | .hbm, ⟨15, _⟩ => ⟨S32x224x224x1x3, .f32⟩
  | .hbm, ⟨16, _⟩ => ⟨S32x224x224x1x3, .f32⟩
  | .hbm, ⟨17, _⟩ => ⟨S32x224x224x1x3, .f32⟩
  | .hbm, ⟨18, _⟩ => ⟨S32x224x224x1x3, .f32⟩
  | .hbm, ⟨19, _⟩ => ⟨S32x224x224x1x3, .f32⟩
  | .hbm, ⟨20, _⟩ => ⟨S32x224x224x1x3, .f32⟩
  | .hbm, ⟨21, _⟩ => ⟨S32x224x224x1x3, .f32⟩
  | .hbm, ⟨22, _⟩ => ⟨S32x224x224x1x3, .f32⟩
  | .hbm, ⟨23, _⟩ => ⟨S32x224x224x9x3, .f32⟩
  | .hbm, ⟨24, _⟩ => ⟨S32x224x224x27, .f32⟩
  | .hbm, ⟨25, _⟩ => ⟨S32x224x224x27, .f32⟩
  | .hbm, ⟨26, _⟩ => ⟨S32x224x224x1, .f32⟩
  | .hbm, ⟨27, _⟩ => ⟨S32x224x224, .f32⟩
  | .hbm, ⟨28, _⟩ => ⟨S32x224x224x1, .f32⟩
  | .hbm, ⟨29, _⟩ => ⟨S_, .f32⟩
  | .hbm, ⟨30, _⟩ => ⟨S1, .f32⟩
  | .hbm, ⟨31, _⟩ => ⟨S1x1x1x1, .f32⟩
  | .hbm, ⟨32, _⟩ => ⟨S_, .f32⟩
  | .hbm, ⟨33, _⟩ => ⟨S1x1x1x1, .f32⟩
  | .hbm, ⟨34, _⟩ => ⟨S1x1x1x1, .f32⟩
  | .hbm, ⟨35, _⟩ => ⟨S32x224x224x1, .f32⟩
  | .hbm, ⟨36, _⟩ => ⟨S32x224x224x1, .f32⟩
  | .hbm, ⟨37, _⟩ => ⟨S_, .i32⟩
  | .hbm, ⟨38, _⟩ => ⟨S_, .f32⟩
  | .hbm, ⟨39, _⟩ => ⟨S32x226x226x1, .f32⟩
  | .hbm, ⟨40, _⟩ => ⟨S_, .f32⟩
  | .hbm, ⟨41, _⟩ => ⟨S32x224x224x64, .f32⟩
  | .hbm, ⟨42, _⟩ => ⟨S32x224x224x1, .f32⟩
  | .hbm, ⟨43, _⟩ => ⟨S1x1x1x64, .f32⟩
  | .hbm, ⟨44, _⟩ => ⟨S64, .f32⟩
  | .hbm, ⟨45, _⟩ => ⟨S1x1x1x64, .f32⟩
  | .hbm, ⟨46, _⟩ => ⟨S32x224x224x64, .f32⟩
  | .hbm, ⟨47, _⟩ => ⟨S32x224x224x64, .f32⟩
  | .hbm, ⟨48, _⟩ => ⟨S32x224x224x64, .f32⟩
  | .hbm, ⟨49, _⟩ => ⟨S32x224x224x64, .f32⟩
  | .hbm, ⟨50, _⟩ => ⟨S32x224x224x1, .f32⟩
  | .hbm, ⟨51, _⟩ => ⟨S1x1x1x64, .f32⟩
  | .hbm, ⟨52, _⟩ => ⟨S64, .f32⟩
  | .hbm, ⟨53, _⟩ => ⟨S1x1x1x64, .f32⟩
  | .hbm, ⟨54, _⟩ => ⟨S32x224x224x64, .f32⟩
  | .hbm, ⟨55, _⟩ => ⟨S32x224x224x64, .f32⟩
  | .hbm, ⟨56, _⟩ => ⟨S32x224x224x64, .f32⟩
  | .hbm, ⟨57, _⟩ => ⟨S32x224x224x64, .f32⟩
  | .hbm, ⟨58, _⟩ => ⟨S32x224x224x1, .f32⟩
  | .hbm, ⟨59, _⟩ => ⟨S1x1x1x64, .f32⟩
  | .hbm, ⟨60, _⟩ => ⟨S64, .f32⟩
  | .hbm, ⟨61, _⟩ => ⟨S1x1x1x64, .f32⟩
  | .hbm, ⟨62, _⟩ => ⟨S32x224x224x64, .f32⟩
  | .hbm, ⟨63, _⟩ => ⟨S32x224x224x64, .f32⟩
  | .hbm, ⟨64, _⟩ => ⟨S32x224x224x64, .f32⟩
  | .hbm, ⟨65, _⟩ => ⟨S32x224x224x64, .f32⟩
  | .hbm, ⟨66, _⟩ => ⟨S32x224x224x1, .f32⟩
  | .hbm, ⟨67, _⟩ => ⟨S1x1x1x64, .f32⟩
  | .hbm, ⟨68, _⟩ => ⟨S64, .f32⟩
  | .hbm, ⟨69, _⟩ => ⟨S1x1x1x64, .f32⟩
  | .hbm, ⟨70, _⟩ => ⟨S32x224x224x64, .f32⟩
  | .hbm, ⟨71, _⟩ => ⟨S32x224x224x64, .f32⟩
  | .hbm, ⟨72, _⟩ => ⟨S32x224x224x64, .f32⟩
  | .hbm, ⟨73, _⟩ => ⟨S32x224x224x64, .f32⟩
  | .hbm, ⟨74, _⟩ => ⟨S32x224x224x1, .f32⟩
  | .hbm, ⟨75, _⟩ => ⟨S1x1x1x64, .f32⟩
  | .hbm, ⟨76, _⟩ => ⟨S64, .f32⟩
  | .hbm, ⟨77, _⟩ => ⟨S1x1x1x64, .f32⟩
  | .hbm, ⟨78, _⟩ => ⟨S32x224x224x64, .f32⟩
  | .hbm, ⟨79, _⟩ => ⟨S32x224x224x64, .f32⟩
  | .hbm, ⟨80, _⟩ => ⟨S32x224x224x64, .f32⟩
  | .hbm, ⟨81, _⟩ => ⟨S32x224x224x64, .f32⟩
  | .hbm, ⟨82, _⟩ => ⟨S32x224x224x1, .f32⟩
  | .hbm, ⟨83, _⟩ => ⟨S1x1x1x64, .f32⟩
  | .hbm, ⟨84, _⟩ => ⟨S64, .f32⟩
  | .hbm, ⟨85, _⟩ => ⟨S1x1x1x64, .f32⟩
  | .hbm, ⟨86, _⟩ => ⟨S32x224x224x64, .f32⟩
  | .hbm, ⟨87, _⟩ => ⟨S32x224x224x64, .f32⟩
  | .hbm, ⟨88, _⟩ => ⟨S32x224x224x64, .f32⟩
  | .hbm, ⟨89, _⟩ => ⟨S32x224x224x64, .f32⟩
  | .hbm, ⟨90, _⟩ => ⟨S32x224x224x1, .f32⟩
  | .hbm, ⟨91, _⟩ => ⟨S1x1x1x64, .f32⟩
  | .hbm, ⟨92, _⟩ => ⟨S64, .f32⟩
  | .hbm, ⟨93, _⟩ => ⟨S1x1x1x64, .f32⟩
  | .hbm, ⟨94, _⟩ => ⟨S32x224x224x64, .f32⟩
  | .hbm, ⟨95, _⟩ => ⟨S32x224x224x64, .f32⟩
  | .hbm, ⟨96, _⟩ => ⟨S32x224x224x64, .f32⟩
  | .hbm, ⟨97, _⟩ => ⟨S32x224x224x64, .f32⟩
  | .hbm, ⟨98, _⟩ => ⟨S32x224x224x1, .f32⟩
  | .hbm, ⟨99, _⟩ => ⟨S1x1x1x64, .f32⟩
  | .hbm, ⟨100, _⟩ => ⟨S64, .f32⟩
  | .hbm, ⟨101, _⟩ => ⟨S1x1x1x64, .f32⟩
  | .hbm, ⟨102, _⟩ => ⟨S32x224x224x64, .f32⟩
  | .hbm, ⟨103, _⟩ => ⟨S32x224x224x64, .f32⟩
  | .hbm, ⟨104, _⟩ => ⟨S32x224x224x64, .f32⟩
  | .hbm, ⟨105, _⟩ => ⟨S32x224x224x64, .f32⟩
  | .hbm, ⟨106, _⟩ => ⟨S32x224x224x1, .f32⟩
  | .hbm, ⟨107, _⟩ => ⟨S1x1x1x64, .f32⟩
  | .hbm, ⟨108, _⟩ => ⟨S64, .f32⟩
  | .hbm, ⟨109, _⟩ => ⟨S1x1x1x64, .f32⟩
  | .hbm, ⟨110, _⟩ => ⟨S32x224x224x64, .f32⟩
  | .hbm, ⟨111, _⟩ => ⟨S32x224x224x64, .f32⟩
  | .hbm, ⟨112, _⟩ => ⟨S32x224x224x64, .f32⟩
  | .hbm, ⟨113, _⟩ => ⟨S32x224x224x64, .f32⟩
  | _, _ => ⟨S32x224x224x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c_1 : Ref sig .tc := ⟨.hbm, 37, rfl⟩
abbrev main_call2_v0 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩

abbrev nD : Nat := 1
abbrev τ : Topo := Topo.v7x

variable {F : FTy → Type} [FloatOps F]
-- ==== Proof.Median.lean ====
/-
  The median of 27 entries by a pruned sorting network. The network is Batcher's odd-even merge sort of 32 wires whose last five
  carry the greatest element, so that every exchange touching one of them does nothing and is left out. `wire` is what a wire
  carries after a list of exchanges; `medWire_eq` says that wire 13 carries the entry at place 13 of the 27 entries in ascending order.
-/
module

public import Idealize.ShloMosaic.Lib.SortNet.OddEvenSort
public import Mathlib.Logic.Equiv.Fintype

@[expose] public section

namespace Cert.Med

open Idealize.ShloMosaic.SortNet

variable {α β : Type*}

/-- What wire `k` carries after the exchanges `ps`, the LAST exchange at the head of the list: exchange `(a, b)` leaves
    `mn` of the two entries at `a` and `mx` of them at `b`. -/
def wire (mn mx : α → α → α) : List (Nat × Nat) → (Nat → α) → Nat → α
  | [], v, k => v k
  | p :: ps, v, k =>
    bif Nat.beq k p.1 then mn (wire mn mx ps v p.1) (wire mn mx ps v p.2)
    else bif Nat.beq k p.2 then mx (wire mn mx ps v p.1) (wire mn mx ps v p.2)
    else wire mn mx ps v k

/-- One exchange, then the rest of the list. -/
theorem wire_cons (mn mx : α → α → α) (p : Nat × Nat) (ps : List (Nat × Nat)) (v : Nat → α) (k : Nat) :
    wire mn mx (p :: ps) v k
      = if k = p.1 then mn (wire mn mx ps v p.1) (wire mn mx ps v p.2)
        else if k = p.2 then mx (wire mn mx ps v p.1) (wire mn mx ps v p.2)
        else wire mn mx ps v k := by
  have e : ∀ a b : Nat, Nat.beq a b = decide (a = b) := fun a b => by
    rw [Bool.eq_iff_iff, Nat.beq_eq, decide_eq_true_iff]
  rw [wire, e, e]
  simp only [Bool.cond_decide]

/-- A map that carries the two operations to two others carries the wires along. -/
theorem wire_map (mn mx : α → α → α) (mn' mx' : β → β → β) (f : α → β) (hmn : ∀ a b, f (mn a b) = mn' (f a) (f b))
    (hmx : ∀ a b, f (mx a b) = mx' (f a) (f b)) (ps : List (Nat × Nat)) (v : Nat → α) (k : Nat) :
    f (wire mn mx ps v k) = wire mn' mx' ps (fun k => f (v k)) k := by
  induction ps generalizing k with
  | nil => rfl
  | cons p ps ih =>
    rw [wire_cons, wire_cons, ← ih, ← ih, ← ih, ← hmn, ← hmx]
    split
    · rfl
    · split <;> rfl

/-- The exchanges of the odd-even merge sort of 32 wires that touch the first 27 wires only, first to last. -/
def netPairs : List (Nat × Nat) :=
  [(0, 1), (2, 3), (4, 5), (6, 7), (8, 9), (10, 11), (12, 13), (14, 15), (16, 17), (18, 19), (20, 21), (22, 23), (24, 25), (0, 2), (1, 3), (4, 6), (5,
  7), (8, 10), (9, 11), (12, 14), (13, 15), (16, 18), (17, 19), (20, 22), (21, 23), (24, 26), (1, 2), (5, 6), (9, 10), (13, 14), (17, 18), (21, 22),
  (25, 26), (0, 4), (1, 5), (2, 6), (3, 7), (8, 12), (9, 13), (10, 14), (11, 15), (16, 20), (17, 21), (18, 22), (19, 23), (2, 4), (3, 5), (10, 12), (11,
  13), (18, 20), (19, 21), (1, 2), (3, 4), (5, 6), (9, 10), (11, 12), (13, 14), (17, 18), (19, 20), (21, 22), (25, 26), (0, 8), (1, 9), (2, 10), (3,
  11), (4, 12), (5, 13), (6, 14), (7, 15), (16, 24), (17, 25), (18, 26), (4, 8), (5, 9), (6, 10), (7, 11), (20, 24), (21, 25), (22, 26), (2, 4), (3, 5),
  (6, 8), (7, 9), (10, 12), (11, 13), (18, 20), (19, 21), (22, 24), (23, 25), (1, 2), (3, 4), (5, 6), (7, 8), (9, 10), (11, 12), (13, 14), (17, 18),
  (19, 20), (21, 22), (23, 24), (25, 26), (0, 16), (1, 17), (2, 18), (3, 19), (4, 20), (5, 21), (6, 22), (7, 23), (8, 24), (9, 25), (10, 26), (8, 16),
  (9, 17), (10, 18), (11, 19), (12, 20), (13, 21), (14, 22), (15, 23), (4, 8), (5, 9), (6, 10), (7, 11), (12, 16), (13, 17), (14, 18), (15, 19), (20,
  24), (21, 25), (22, 26), (2, 4), (3, 5), (6, 8), (7, 9), (10, 12), (11, 13), (14, 16), (15, 17), (18, 20), (19, 21), (22, 24), (23, 25), (1, 2), (3,
  4), (5, 6), (7, 8), (9, 10), (11, 12), (13, 14), (15, 16), (17, 18), (19, 20), (21, 22), (23, 24), (25, 26)]

/-- The exchanges kept are those of the whole network that touch no wire from 27 on. -/
theorem netPairs_eq : (oddEvenPairs 5).filter (fun p => decide (p.2 < 27)) = netPairs := by decide +kernel

/-- Every exchange of the sort goes from a wire to a later wire below 32. -/
theorem pairs_lt : ∀ p ∈ oddEvenPairs 5, p.1 < p.2 ∧ p.2 < 32 := by decide +kernel

variable [LinearOrder α]

/-- With the greatest element on every wire from 27 on, the exchanges reaching beyond wire 26 do nothing. -/
theorem wire_prune [OrderTop α] (ps : List (Nat × Nat)) (hps : ∀ p ∈ ps, p.1 < p.2) (v : Nat → α) (hv : ∀ k, 27 ≤ k → v k = ⊤)
    (k : Nat) :
    wire min max ps v k = if k < 27 then wire min max (ps.filter fun p => decide (p.2 < 27)) v k else ⊤ := by
  induction ps generalizing k with
  | nil =>
    split
    · rfl
    · exact hv k (by omega)
  | cons p ps ih =>
    have hlt := hps p List.mem_cons_self
    have ih' := ih fun q hq => hps q (List.mem_cons_of_mem _ hq)
    rw [wire_cons, ih' p.1, ih' p.2, ih' k]
    by_cases h2 : p.2 < 27
    · rw [List.filter_cons_of_pos (by simpa using h2), wire_cons, if_pos h2, if_pos (by omega : p.1 < 27)]
      split
      · subst k; rw [if_pos (by omega)]
      · split
        · subst k; rw [if_pos h2]
        · rfl
    · rw [List.filter_cons_of_neg (by simpa using h2), if_neg h2]
      split
      · subst k; rw [min_eq_left le_top]
      · split
        · subst k; rw [if_neg h2, max_eq_right le_top]
        · rfl

/-- The wires are the network of the library, read in the opposite order (there the greater entry goes to the first wire). -/
theorem wire_eq_network (ps : List (Nat × Nat)) (hps : ∀ p ∈ ps, p.1 < p.2 ∧ p.2 < 32) (v : Nat → α) (k : Fin 32) :
    OrderDual.toDual (wire min max ps v k.val)
      = Network.apply (Network.ofPairs 32 ps.reverse) (fun i : Fin 32 => OrderDual.toDual (v i.val)) k := by
  induction ps generalizing k with
  | nil => rfl
  | cons p ps ih =>
    have hp := hps p List.mem_cons_self
    have ih' := ih fun q hq => hps q (List.mem_cons_of_mem _ hq)
    have hc : p.2 < 32 ∧ p.1 < 32 ∧ p.2 ≠ p.1 := ⟨hp.2, by omega, by omega⟩
    have hone : Network.ofPairs 32 [p] = [⟨⟨p.2, hc.1⟩, ⟨p.1, hc.2.1⟩, fun e => hc.2.2 (Fin.val_eq_of_eq e)⟩] := by
      unfold Network.ofPairs
      rw [List.filterMap_cons_some (dif_pos hc), List.filterMap_nil]
    have happ : Network.ofPairs 32 (ps.reverse ++ [p]) = Network.ofPairs 32 ps.reverse ++ Network.ofPairs 32 [p] := by
      unfold Network.ofPairs
      exact List.filterMap_append
    rw [List.reverse_cons, happ, hone]
    unfold Network.apply at ih' ⊢
    rw [List.foldl_append, List.foldl_cons, List.foldl_nil]
    rw [Cmpx.apply]
    dsimp only
    rw [← ih', ← ih', ← ih', wire_cons]
    dsimp only
    by_cases h1 : k.val = p.1
    · rw [if_pos h1, if_neg (by rw [Fin.ext_iff]; dsimp only; omega), if_pos (by rw [Fin.ext_iff]; exact h1), toDual_min, max_comm]
    · rw [if_neg h1]
      by_cases h2 : k.val = p.2
      · rw [if_pos h2, if_pos (by rw [Fin.ext_iff]; exact h2), toDual_max, min_comm]
      · rw [if_neg h2, if_neg (by rw [Fin.ext_iff]; exact h2), if_neg (by rw [Fin.ext_iff]; exact h1)]

/-- Two ascending rearrangements of one vector are the same vector. -/
theorem ascending_unique {n : Nat} {f : Fin n → α} {σ τ : Equiv.Perm (Fin n)} (hσ : Monotone (f ∘ σ)) (hτ : Monotone (f ∘ τ)) :
    f ∘ σ = f ∘ τ :=
  List.ofFn_injective <|
    List.Perm.eq_of_pairwise (le := fun a b => a ≤ b) (fun _ _ _ _ h h' => le_antisymm h h')
      (List.pairwise_ofFn.mpr fun _ _ h => hσ (le_of_lt h)) (List.pairwise_ofFn.mpr fun _ _ h => hτ (le_of_lt h))
      ((Equiv.Perm.ofFn_comp_perm σ f).trans (Equiv.Perm.ofFn_comp_perm τ f).symm)

/-- The first 27 of 32 wires. -/
def low27 : Fin 27 ≃ {k : Fin 32 // k.val < 27} where
  toFun i := ⟨⟨i.val, by omega⟩, i.isLt⟩
  invFun k := ⟨k.val.val, k.2⟩
  left_inv _ := rfl
  right_inv _ := rfl

/-- Wire `i` of the pruned network carries the entry at place `i` of the 27 entries in ascending order. -/
theorem medWire_eq [OrderTop α] (v : Nat → α) (hv : ∀ k, 27 ≤ k → v k = ⊤) (σ : Equiv.Perm (Fin 27))
    (hσ : Monotone fun i => v (σ i).val) (i : Fin 27) :
    wire min max netPairs.reverse v i.val = v (σ i).val := by
  -- the whole network of 32 wires
  have hall : ∀ p ∈ (oddEvenPairs 5).reverse, p.1 < p.2 ∧ p.2 < 32 := fun p hp => pairs_lt p (List.mem_reverse.mp hp)
  have hprune := wire_prune (oddEvenPairs 5).reverse (fun p hp => (hall p hp).1) v hv
  have hnet := wire_eq_network (oddEvenPairs 5).reverse hall v
  rw [List.reverse_reverse] at hnet
  obtain ⟨τ, hτ⟩ := Network.exists_perm (oddEvenNet 5) (fun i : Fin 32 => OrderDual.toDual (v i.val))
  have hanti := oddEvenNet_antitone 5 (fun i : Fin 32 => OrderDual.toDual (v i.val))
  have hw : ∀ k : Fin 32, wire min max (oddEvenPairs 5).reverse v k.val = v (τ k).val := fun k =>
    congrArg OrderDual.ofDual ((hnet k).trans (congrFun hτ k))
  have hmono : Monotone ((fun i : Fin 32 => v i.val) ∘ τ) := by
    intro a b hab
    have h := hanti hab
    rw [hτ] at h
    exact h
  -- the 27 entries in order, then the five greatest elements
  let ρ : Equiv.Perm (Fin 32) := σ.extendDomain (low27)
  have hlow : ∀ k : Fin 32, (hk : k.val < 27) → (ρ k).val = (σ ⟨k.val, hk⟩).val := fun k hk =>
    congrArg Fin.val (Equiv.Perm.extendDomain_apply_subtype σ (low27) (b := k) hk)
  have hhigh : ∀ k : Fin 32, 27 ≤ k.val → ρ k = k := fun k hk =>
    Equiv.Perm.extendDomain_apply_not_subtype σ (low27) (b := k) (by omega)
  have hmono' : Monotone ((fun i : Fin 32 => v i.val) ∘ ρ) := by
    intro a b hab
    dsimp only [Function.comp_apply]
    by_cases hb : b.val < 27
    · have ha : a.val < 27 := lt_of_le_of_lt hab hb
      rw [hlow a ha, hlow b hb]
      exact hσ (show (⟨a.val, ha⟩ : Fin 27) ≤ ⟨b.val, hb⟩ from hab)
    · rw [hhigh b (by omega), hv b.val (by omega)]
      exact le_top
  have huniq := congrFun (ascending_unique hmono hmono') ⟨i.val, by omega⟩
  dsimp only [Function.comp_apply] at huniq
  have hpi := hprune i.val
  rw [if_pos i.isLt, List.filter_reverse, netPairs_eq] at hpi
  rw [← hpi, hw ⟨i.val, by omega⟩, huniq, hlow ⟨i.val, by omega⟩ i.isLt]

end Cert.Med
-- ==== Proof.KMed.lean ====
/-
  What the kernel's first call computes from one image: the median of the 27 entries around each pixel, and the sums of
  the medians over each column.
-/
module

public import proofs.«01_k».proof.Proof.Median
public import proofs.«01_k».proof.Proof.Gen.KernelIdeal.Frame
public import Idealize.ShloMosaic.Lib.Pipeline.ValueKit

@[expose] public section

set_option maxRecDepth 16384

noncomputable section

namespace Cert.KernelIdeal.Gen

open Idealize.ShloMosaic Cert.Med

variable {F : FTy → Type} [FloatOps F]

/-- The median array of a block. -/
def medv (x0 : Vec F S1x3x226x226 .f32) : FVec F S224x224 .f32 :=
  k0_pay209 (k0_pay256 x0) (k0_pay263 x0) (k0_pay264 x0) (k0_pay265 x0) (k0_pay266 x0) (k0_pay267 x0) (k0_pay268 x0) (k0_pay269 x0)
    (k0_pay270 x0) (k0_pay271 x0) (k0_pay272 x0) (k0_pay273 x0) (k0_pay274 x0) (k0_pay275 x0) (k0_pay276 x0) (k0_pay277 x0)
    (k0_pay278 x0) (k0_pay279 x0) (k0_pay280 x0) (k0_pay281 x0) (k0_pay282 x0) (k0_pay283 x0) (k0_pay284 x0) (k0_pay285 x0)
    (k0_pay286 x0) (k0_pay287 x0)

/-- The 27 shifted slices of a block. -/
def taps (x0 : Vec F S1x3x226x226 .f32) : List (FVec F S224x224 .f32) :=
  [k0_pay212 x0, k0_pay213 x0, k0_pay214 x0, k0_pay215 x0, k0_pay216 x0, k0_pay217 x0, k0_pay218 x0, k0_pay219 x0, k0_pay220 x0,
   k0_pay221 x0, k0_pay222 x0, k0_pay223 x0, k0_pay224 x0, k0_pay225 x0, k0_pay226 x0, k0_pay227 x0, k0_pay228 x0, k0_pay229 x0,
   k0_pay230 x0, k0_pay231 x0, k0_pay232 x0, k0_pay233 x0, k0_pay234 x0, k0_pay235 x0, k0_pay236 x0, k0_pay237 x0, k0_pay238 x0]

/-- The median array is wire 13 of the network over whole slices. -/
theorem medv_eq_wire (x0 : Vec F S1x3x226x226 .f32) (d : FVec F S224x224 .f32) :
    medv x0 = wire minimumf maximumf netPairs.reverse (fun k => (taps x0).getD k d) 13 := rfl

/-- One shifted slice of a block, read at an index. -/
theorem slice_at (x : FVec F S1x3x226x226 .f32) (a b d : Nat) (h : S3x226x226.Slices ![a, b, d] S1x224x224) (r s : Fin 224)
    (ha : a < 3) (hb : b + r.val < 226) (hd : d + s.val < 226) :
    shapeCast S224x224 (extractStridedSlice S1x224x224 ![a, b, d] (k0_pay2 x) h) shapeCasts_S1x224x224_S224x224 (ix2 r s)
      = x (ix4 0 ⟨a, ha⟩ ⟨b + r.val, hb⟩ ⟨d + s.val, hd⟩) := by
  pointwise [k0_pay2]

/-- The block's one load reads it whole. -/
theorem ld_block (x0 : Vec F S1x3x226x226 .f32) : View.ld x0 r0_0 = x0 := by
  funext j
  idx_vars j
  pointwise
  rw [Subsingleton.elim j0 0]

/-- Entry `k` of the 27 slices, read at an index: channel `k / 9`, row offset `k / 3 % 3`, column offset `k % 3`. -/
theorem taps_at (x0 : Vec F S1x3x226x226 .f32) (d : FVec F S224x224 .f32) (k : Nat) (hk : k < 27) (r s : Fin 224) :
    (taps x0).getD k d (ix2 r s)
      = x0 (ix4 0 ⟨k / 9, by omega⟩ ⟨k / 3 % 3 + r.val, by omega⟩ ⟨k % 3 + s.val, by omega⟩) := by
  have e := ld_block x0
  interval_cases k
  all_goals
    refine Eq.trans ?_ ((slice_at (View.ld x0 r0_0) _ _ _ (by decide) r s _ _ _).trans (congrFun e _))
    rfl

/-- Entry `k` of the window of the padded array at image `b`, row `r`, column `s`; the greatest element from 27 on. -/
def tapAt (P : FVec Ideal S32x3x226x226 .f32) (b : Fin 32) (r s : Fin 224) (k : Nat) : EReal :=
  if h : k < 27 then P (ix4 b ⟨k / 9, by omega⟩ ⟨k / 3 % 3 + r.val, by omega⟩ ⟨k % 3 + s.val, by omega⟩) else ⊤

/-- The median the kernel leaves at image `b`, row `r`, column `s`, of the padded array. -/
def medAt (P : FVec Ideal S32x3x226x226 .f32) (b : Fin 32) (r s : Fin 224) : EReal :=
  wire min max netPairs.reverse (tapAt P b r s) 13

/-- The median array of a block that is image `b` of a padded array. -/
theorem medv_at (x0 : FVec Ideal S1x3x226x226 .f32) (P : FVec Ideal S32x3x226x226 .f32) (b : Fin 32)
    (hx : ∀ c i j, x0 (ix4 0 c i j) = P (ix4 b c i j)) (r s : Fin 224) : medv (F := Ideal) x0 (ix2 r s) = medAt P b r s := by
  refine (congrFun (medv_eq_wire (F := Ideal) x0 fun _ => (⊤ : EReal)) (ix2 r s)).trans ?_
  refine (wire_map _ _ min max (fun v : FVec Ideal S224x224 .f32 => (v (ix2 r s) : EReal)) (fun _ _ => rfl) (fun _ _ => rfl)
    _ _ _).trans ?_
  unfold medAt
  congr 1
  funext k
  unfold tapAt
  split
  · rename_i hk
    exact (taps_at (F := Ideal) x0 _ k hk r s).trans (hx _ _ _)
  · rename_i hk
    have e : (taps (F := Ideal) x0).getD k (fun _ => (⊤ : EReal)) = fun _ => (⊤ : EReal) := by
      rw [List.getD_eq_getElem?_getD, List.getElem?_eq_none (by rw [show (taps (F := Ideal) x0).length = 27 from rfl]; omega)]
      rfl
    exact congrFun e _

end Cert.KernelIdeal.Gen

end
-- ==== Proof.KConv.lean ====
/-
  What the kernel's second call computes from one band of rows: at each pixel and filter, the sum over the nine places of the
  window of the centred median times the weight.
-/
module

public import proofs.«01_k».proof.Proof.Gen.KernelIdeal.Frame
public import Idealize.ShloMosaic.Lib.Pipeline.ValueKit

@[expose] public section

set_option maxRecDepth 16384

noncomputable section

namespace Cert.KernelIdeal.Gen

open Idealize.ShloMosaic
open Cert.KernelIdeal

/-- The convolution's block at an index: the sum over the nine taps of the shifted entry less the mean, times the weight. -/
theorem conv_pay (v0 : EReal) (v4 : FVec Ideal S1x64x226 .f32) (v27 : FVec Ideal S9x64 .f32) (h : Fin 56) (w : Fin 224) (f : Fin 64) :
    k1_pay1 (F := Ideal) v0 v4 v27 (ix4 0 h w f)
      = ∑ k : Fin 9, (v4 (ix3 0 ⟨k.val / 3 + h.val, by omega⟩ ⟨k.val % 3 + w.val, by omega⟩) - v0) * v27 (ix2 k f) := by
  pointwise [k1_pay1]
  refine Finset.sum_congr rfl fun k _ => congrArg (· * v27 (ix2 k f)) ?_
  fin_vals k with hk
  all_goals simp only [hk, Nat.reduceSub, Nat.reduceLT, Nat.reduceDiv, Nat.reduceMod, Nat.zero_add, ↓reduceDIte]

end Cert.KernelIdeal.Gen

end
-- ==== Proof.KArr.lean ====
/-
  The arrays that the kernel's two calls leave, put together from their blocks.
-/
module

public import proofs.«01_k».proof.Proof.KMed
public import proofs.«01_k».proof.Proof.KConv

@[expose] public section

set_option maxRecDepth 16384

noncomputable section

namespace Cert.KernelIdeal.Gen

open Idealize.ShloMosaic Idealize.ShloMosaic.TcCoe Idealize.SL.Sem Cert.Med
open Idealize.ShloMosaic.Pipeline (Dat)
open Cert.KernelIdeal

variable (V : (c : Dev nD) → (b : Ref sig .tc) → Buf (Elt Ideal) ((c : Thread nD τ).loc b))

/-- The index maps of the median launch: every window takes image `t`. -/
theorem idx0 : ∀ t : Fin cfg0.N, win0_0.index t = ![t.val, 0, 0, 0] ∧ win0_1.index t = ![t.val, 0, 0] ∧ win0_2.index t = ![t.val, 0, 0]
    ∧ t.val < 32 :=
  (by decide +kernel : ∀ t : Fin grid0.N, _)

/-- The median array of a padded array. -/
def medArr (P : FVec Ideal S32x3x226x226 .f32) : FVec Ideal S32x224x224 .f32 := fun i => medAt P (i 0) (i 1) (i 2)

/-- The column sums of the median array. -/
def sumArr (P : FVec Ideal S32x3x226x226 .f32) : FVec Ideal S32x1x224 .f32 := fun i => ∑ h : Fin 224, medAt P (i 0) h (i 2)

/-- The input block at point `t` is image `t` of the padded array. -/
theorem blk0_at (c : Dev nD) (t : Fin cfg0.N) (b : Fin 32) (hb : b.val = t.val) (ch : Fin 3) (i j : Fin 226) :
    (iblk0 V c 0 t : FVec Ideal S1x3x226x226 .f32) (ix4 0 ch i j)
      = (V c main_v1 : FVec Ideal S32x3x226x226 .f32) (ix4 b ch i j) := by
  blk_ext [iblk0, idx0 t]

/-- The median array the body computes at point `t` is image `t` of the median array. -/
theorem medv_blk (c : Dev nD) (t : Fin cfg0.N) (b : Fin 32) (hb : b.val = t.val) (r s : Fin 224) :
    medv (F := Ideal) (iblk0 V c 0 t) (ix2 r s) = medAt (V c main_v1) b r s :=
  medv_at _ _ b (fun ch i j => blk0_at V c t b hb ch i j) r s

/-- The median block at point `t`, at an index of the array. -/
theorem med_point (c : Dev nD) (t : Fin cfg0.N) (y : S1x224x224.Idx) (b : Fin 32) (r s : Fin 224) (hb : b.val = t.val)
    (hr : r.val = (y 1).val) (hs : s.val = (y 2).val) :
    shapeCast S1x224x224 (medv (F := Ideal) (iblk0 V c 0 t)) shapeCasts_S224x224_S1x224x224 y = medArr (V c main_v1) (ix3 b r s) := by
  idx_vars y
  obtain rfl : r = y1 := Fin.ext hr
  obtain rfl : s = y2 := Fin.ext hs
  refine Eq.trans ?_ (medv_blk V c t b hb r s)
  pointwise

/-- The block of sums at point `t`, at an index of the array. -/
theorem sum_point (c : Dev nD) (t : Fin cfg0.N) (y : S1x1x224.Idx) (b : Fin 32) (z : Fin 1) (s : Fin 224) (hb : b.val = t.val)
    (hs : s.val = (y 2).val) :
    k0_pay1 (shapeCast S1x224 (multiReduction .add [0] S224 (medv (F := Ideal) (iblk0 V c 0 t)) 0x00000000#32 reduces_S224x224_S224
      (.inl rfl) rfl) shapeCasts_S224_S1x224) y = sumArr (V c main_v1) (ix3 b z s) := by
  idx_vars y
  obtain rfl : s = y2 := Fin.ext hs
  refine Eq.trans ?_ (Finset.sum_congr rfl fun h _ => medv_blk V c t b hb h s)
  pointwise [k0_pay1]

/-- The median array after the launch. -/
theorem med_final (c : Dev nD) : (dat0 V c).arrAt 1 cfg0.N = medArr (V c main_v1) := by
  refine (dat0 V c).arrAt_eq_of_covers 1 _ (by decide +kernel) fun t _ y => ?_
  blk_simp
  rw [after0_1]
  frame_out
  refine (med_point V c t y ⟨t.val, (idx0 t).2.2.2⟩ (y 1) (y 2) rfl rfl rfl).trans ?_
  blk_ext [idx0 t]

/-- The sums after the launch. -/
theorem sum_final (c : Dev nD) : (dat0 V c).arrAt 2 cfg0.N = sumArr (V c main_v1) := by
  refine (dat0 V c).arrAt_eq_of_covers 2 _ (by decide +kernel) fun t _ y => ?_
  blk_simp
  rw [after0_2]
  frame_out
  refine (sum_point V c t y ⟨t.val, (idx0 t).2.2.2⟩ 0 (y 2) rfl rfl).trans ?_
  blk_ext [idx0 t]

/-! ## The convolution launch -/

/-- The index maps of the convolution launch and the row its load starts from: image `t / 4`, 56-row block `t % 4`. -/
theorem idx1 : ∀ t : Fin cfg1.N, win1_0.index t = ![0, 0] ∧ win1_1.index t = ![t.val / 4, 0, 0] ∧ win1_2.index t = ![0, 0]
    ∧ win1_3.index t = ![t.val / 4, t.val % 4, 0, 0] ∧ t.val / 4 < 32 ∧ k1_off1 (grid1.coords t) = ![0, 56 * (t.val % 4), 0] :=
  (by decide +kernel : ∀ t : Fin grid1.N, _)

/-- The convolution's array: over the nine taps, the padded median less the mean, times the tap's weight. -/
def convArr (mu : FVec Ideal S1x1 .f32) (M : FVec Ideal S32x232x226 .f32) (w : FVec Ideal S9x64 .f32) : FVec Ideal S32x224x224x64 .f32 :=
  fun i => ∑ k : Fin 9, (M (ix3 (i 0) ⟨k.val / 3 + (i 1).val, by have := (i 1).isLt; have : (i 1).val < 224 := this; omega⟩
    ⟨k.val % 3 + (i 2).val, by have := (i 2).isLt; have : (i 2).val < 224 := this; omega⟩) - mu (ix2 0 0)) * w (ix2 k (i 3))

/-- The scalar the body loads is the mean. -/
theorem mu_at (c : Dev nD) (t : Fin cfg1.N) (h1 : 0 < (Rect.unit (s := S1x1) ![0, 0] ![1, 1] inb_S1x1_S1x1_0_0).shape.numel) :
    (View.ld (iblk1 V c 0 t) (Rect.unit ![0, 0] ![1, 1] inb_S1x1_S1x1_0_0) (Shape.Idx.first h1) : EReal)
      = (V c main_v8 : FVec Ideal S1x1 .f32) (ix2 0 0) := by
  refine Eq.trans (b := (iblk1 V c 0 t : FVec Ideal S1x1 .f32) (ix2 0 0)) ?_ ?_
  · refine congrArg (iblk1 V c 0 t : FVec Ideal S1x1 .f32) ((eq_ix2 _).trans ?_)
    exact congrArg₂ ix2 (Subsingleton.elim (α := Fin 1) _ _) (Subsingleton.elim (α := Fin 1) _ _)
  · blk_ext [iblk1, idx1 t]

/-- The rows the body loads at point `t` start at row `56 * (t % 4)` of image `t / 4`. -/
theorem rows_at (c : Dev nD) (t : Fin cfg1.N) (h2) (b : Fin 32) (hb : b.val = t.val / 4) (i : Fin 64) (j : Fin 226) (r : Fin 232)
    (hr : r.val = 56 * (t.val % 4) + i.val) :
    (View.ld (iblk1 V c 1 t) (Rect.unit (s := S1x232x226) (k1_off1 (grid1.coords t)) ![1, 64, 226] h2) (ix3 0 i j) : EReal)
      = (V c main_v6 : FVec Ideal S32x232x226 .f32) (ix3 b r j) := by
  refine Eq.trans (b := (iblk1 V c 1 t : FVec Ideal S1x232x226 .f32) (ix3 0 ⟨56 * (t.val % 4) + i.val, by omega⟩ j)) ?_ ?_
  · pointwise
    blk_ext [idx1 t]
  · blk_ext [iblk1, idx1 t]

/-- The weights the body loads. -/
theorem w_at (c : Dev nD) (t : Fin cfg1.N) (k : Fin 9) (f : Fin 64) :
    (iblk1 V c 2 t : FVec Ideal S9x64 .f32) (ix2 k f) = (V c main_v7 : FVec Ideal S9x64 .f32) (ix2 k f) := by
  blk_ext [iblk1, idx1 t]

/-- The convolution's block at point `t`, at an index of the array. -/
theorem conv_point (c : Dev nD) (t : Fin cfg1.N) (h1 : 0 < (Rect.unit (s := S1x1) ![0, 0] ![1, 1] inb_S1x1_S1x1_0_0).shape.numel) (h2)
    (y : S1x56x224x64.Idx) (b : Fin 32) (r s : Fin 224)
    (f : Fin 64) (hb : b.val = t.val / 4) (hr : r.val = t.val % 4 * 56 + (y 1).val) (hs : s.val = (y 2).val) (hf : f.val = (y 3).val) :
    k1_pay1 (F := Ideal) (View.ld (iblk1 V c 0 t) (Rect.unit ![0, 0] ![1, 1] inb_S1x1_S1x1_0_0) (Shape.Idx.first h1))
      (View.ld (iblk1 V c 1 t) (Rect.unit (s := S1x232x226) (k1_off1 (grid1.coords t)) ![1, 64, 226] h2)) (iblk1 V c 2 t) y
      = convArr (V c main_v8) (V c main_v6) (V c main_v7) (ix4 b r s f) := by
  idx_vars y
  obtain rfl : s = y2 := Fin.ext hs
  obtain rfl : f = y3 := Fin.ext hf
  obtain rfl : y0 = 0 := Subsingleton.elim _ _
  refine (conv_pay _ _ _ y1 s f).trans ?_
  unfold convArr
  refine Finset.sum_congr rfl fun k _ => ?_
  refine Ideal.mul_congr (congrArg₂ (fun a b : EReal => a - b) (rows_at V c t h2 b hb _ _ _ ?_) (mu_at V c t h1)) (w_at V c t k f)
  show k.val / 3 + r.val = 56 * (t.val % 4) + (k.val / 3 + y1.val)
  have : (r.val : Nat) = t.val % 4 * 56 + y1.val := hr
  omega

/-- The convolution's array after the launch. -/
theorem conv_final (c : Dev nD) : (dat1 V c).arrAt 3 cfg1.N = convArr (V c main_v8) (V c main_v6) (V c main_v7) := by
  refine (dat1 V c).arrAt_eq_of_covers 3 _ (by decide +kernel) fun t _ y => ?_
  blk_simp
  rw [after1_3]
  unfold outsAt1
  frame_out
  refine (conv_point V c t _ _ y ⟨t.val / 4, (idx1 t).2.2.2.2.1⟩ ⟨t.val % 4 * 56 + (y 1).val, ?_⟩ (y 2) (y 3) rfl rfl rfl rfl).trans ?_
  · have : (y 1).val < 56 := (y 1).isLt
    omega
  · blk_ext [idx1 t]

end Cert.KernelIdeal.Gen

end
-- ==== Proof.KRun.lean ====
/-
  The whole run of the kernel: its result as a function `kout` of the two arguments, with the arguments unchanged and the
  counters at zero.
-/
module

public import proofs.«01_k».proof.Proof.KArr
public import Idealize.ShloMosaic.Lib.Claim

@[expose] public section

set_option maxRecDepth 16384

noncomputable section

namespace Cert.KernelIdeal.Gen

open Idealize.ShloMosaic Idealize.ShloMosaic.TcCoe Idealize.SL.Sem Cert.Med
open Cert.KernelIdeal

/-- The padded, channel-first image batch. -/
def padX (X : FVec Ideal S32x224x224x3 .f32) : FVec Ideal S32x3x226x226 .f32 :=
  pad S32x3x226x226 ![0, 0, 1, 1] ![0, 0, 1, 1] ![0, 0, 0, 0]
    (transpose S32x3x224x224 [0, 3, 1, 2] X transposes_S32x224x224x3_S32x3x224x224_0_3_1_2)
    (sitofp .f32 (constantI S_ 32 0#32)) pads_S32x3x224x224_S32x3x226x226_000_000_110_110 h_S_

/-- The mean of the medians. -/
def meanK (P : FVec Ideal S32x3x226x226 .f32) : FVec Ideal S_ .f32 :=
  Host.divf (Host.reduceAdd (sumArr P) (constant S_ .f32 0#32) reducesTo_S32x1x224_S_d0_1_2 h_S_) (constant S_ .f32 1237581824#32)

/-- The medians with the mean around them, and six rows of zeros below. -/
def padM (P : FVec Ideal S32x3x226x226 .f32) : FVec Ideal S32x232x226 .f32 :=
  pad S32x232x226 ![0, 0, 0] ![0, 6, 0] ![0, 0, 0]
    (pad S32x226x226 ![0, 1, 1] ![0, 1, 1] ![0, 0, 0] (medArr P) (meanK P) pads_S32x224x224_S32x226x226_000_110_110 h_S_)
    (sitofp .f32 (constantI S_ 32 0#32)) pads_S32x226x226_S32x232x226_000_060_000 h_S_

/-- The kernel's result. -/
def kout (X : FVec Ideal S32x224x224x3 .f32) (w : FVec Ideal S3x3x1x64 .f32) : FVec Ideal S32x224x224x64 .f32 :=
  convArr (shapeCast S1x1 (meanK (padX X)) shapeCasts_S_S1x1) (padM (padX X)) (shapeCast S9x64 w shapeCasts_S3x3x1x64_S9x64)

variable (m : (ℓ : Loc nD τ sig) → Buf (Elt Ideal) ℓ) (ρ : Dev nD → PrngReg)

/-- The first launch finds the padded batch. -/
theorem entry_x (c : Dev nD) : V2 m ρ c main_v1 = padX (m ((c : Thread nD τ).loc main_arg0)) := by
  show StableHlo.after hostOps0_1 (StableHlo.after hostOps0 (W0 m ρ c)) main_v1 = _
  entry_read
  rfl

/-- After the first launch: the medians, -/
theorem after_med (c : Dev nD) : W3 m ρ c (Proc.devRef .tc main_v2_0) = medArr (padX (m ((c : Thread nD τ).loc main_arg0))) :=
  (W3_arr m ρ c 1).trans ((med_final (V2 m ρ) c).trans (congrArg medArr (entry_x m ρ c)))

/-- and their sums. -/
theorem after_sum (c : Dev nD) : W3 m ρ c (Proc.devRef .tc main_v2_1) = sumArr (padX (m ((c : Thread nD τ).loc main_arg0))) :=
  (W3_arr m ρ c 2).trans ((sum_final (V2 m ρ) c).trans (congrArg sumArr (entry_x m ρ c)))

/-- The second launch finds the mean, -/
theorem entry_mu (c : Dev nD) :
    V8 m ρ c main_v8 = shapeCast S1x1 (meanK (padX (m ((c : Thread nD τ).loc main_arg0)))) shapeCasts_S_S1x1 := by
  show StableHlo.after hostOps1_4 (StableHlo.after hostOps1_3 (StableHlo.after hostOps1_2 (StableHlo.after hostOps1_1 (StableHlo.after hostOps1 (W3 m ρ c))))) main_v8 = _
  entry_read
  rw [after_sum m ρ c]
  rfl

/-- the padded medians, -/
theorem entry_m (c : Dev nD) : V8 m ρ c main_v6 = padM (padX (m ((c : Thread nD τ).loc main_arg0))) := by
  show StableHlo.after hostOps1_4 (StableHlo.after hostOps1_3 (StableHlo.after hostOps1_2 (StableHlo.after hostOps1_1 (StableHlo.after hostOps1 (W3 m ρ c))))) main_v6 = _
  entry_read
  rw [after_sum m ρ c, after_med m ρ c]
  rfl

/-- and the weights, nine rows of 64. -/
theorem entry_w (c : Dev nD) : V8 m ρ c main_v7 = shapeCast S9x64 (m ((c : Thread nD τ).loc main_arg1)) shapeCasts_S3x3x1x64_S9x64 := by
  show StableHlo.after hostOps1_4 (StableHlo.after hostOps1_3 (StableHlo.after hostOps1_2 (StableHlo.after hostOps1_1 (StableHlo.after hostOps1 (W3 m ρ c))))) main_v7 = _
  entry_read
  rw [W3_args m ρ c main_arg1 (by decide)]
  rfl

/-- The result array after the second launch. -/
theorem kout_eq (c : Dev nD) : (dat1 (V8 m ρ) c).arrAt 3 cfg1.N
    = kout (m ((c : Thread nD τ).loc main_arg0)) (m ((c : Thread nD τ).loc main_arg1)) := by
  refine (conv_final (V8 m ρ) c).trans ?_
  rw [entry_mu m ρ c, entry_m m ρ c, entry_w m ρ c]
  rfl

open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds

local notation "𝕄" => MT nD τ sig Unit (Elt Ideal) ℕ (UR sig nD τ) ℕ

set_option backward.isDefEq.respectTransparency.types false in
/-- The run: the arguments unchanged, the result at `kout` of them, every counter at zero. -/
theorem run_value : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v9) = kout (m ((c.tc : Thread nD τ).loc main_arg0)) (m ((c.tc : Thread nD τ).loc main_arg1)))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨(fun c =>
      ⟨(h c _ (mem_uc main_arg0 (by decide))).trans (W9_main_arg0 m ρ c),
       (h c _ (mem_uc main_arg1 (by decide))).trans (W9_main_arg1 m ρ c),
       (h c _ (mem_uc main_v9 (by decide))).trans ((W9_arr m ρ c 3).trans (kout_eq m ρ c))⟩), funext fun g => hz g (.inr (no_unscoped g.2))⟩)

end Cert.KernelIdeal.Gen

end
-- ==== Proof.RefMed.lean ====
/-
  The reference's median: the entry at place 13 of the sorted 27 entries of a window, and its equality with the kernel's.
-/
module

public import proofs.«01_k».proof.Proof.KRun
public import proofs.«01_k».proof.Proof.Gen.ReferenceIdeal
public import Idealize.ShloMosaic.Lib.Pipeline.ValueKit
public import Idealize.ShloMosaic.Lib.SortFacts

@[expose] public section

set_option maxRecDepth 16384

noncomputable section

namespace Cert.ReferenceIdeal.Value

open Cert.ReferenceIdeal Cert.ReferenceIdeal.Gen Idealize.ShloMosaic Cert.Med
open Cert.KernelIdeal.Gen (padX tapAt medAt medArr sumArr meanK padM convArr kout)

/-- The padded images. -/
def rPad (X : FVec Ideal S32x224x224x3 .f32) : FVec Ideal S32x226x226x3 .f32 :=
  pad S32x226x226x3 ![0, 1, 1, 0] ![0, 1, 1, 0] ![0, 0, 0, 0] X (sitofp .f32 (constantI S_ 32 0#32))
    pads_S32x224x224x3_S32x226x226x3_000_110_110_000 h_S_

/-- One shifted copy of the images, with a place for the shift. -/
def shifted (i j : Nat) (h : S32x226x226x3.Slices ![0, i, j, 0] S32x224x224x3) (P : FVec Ideal S32x226x226x3 .f32) :
    FVec Ideal S32x224x224x1x3 .f32 :=
  broadcastInDim S32x224x224x1x3 ![0, 1, 2, 4] bcast_S32x224x224x3_S32x224x224x1x3_0_1_2_4
    (extractStridedSlice S32x224x224x3 ![0, i, j, 0] P h)

/-- The shift with number `n`, three to a row. -/
def piece (P : FVec Ideal S32x226x226x3 .f32) (n : Fin 9) : FVec Ideal S32x224x224x1x3 .f32 :=
  shifted (n.val / 3) (n.val % 3) ((by decide : ∀ n : Fin 9, S32x226x226x3.Slices ![0, n.val / 3, n.val % 3, 0] S32x224x224x3) n) P

/-- The nine shifts side by side. -/
def cat (P : FVec Ideal S32x226x226x3 .f32) : FVec Ideal S32x224x224x9x3 .f32 :=
  concatenate S32x224x224x9x3 3 (List.ofFn fun n : Fin 9 => (⟨S32x224x224x1x3, piece P n⟩ : (s : Shape) × (s.Idx → EReal)))
    concatenates_S32x224x224x1x3_S32x224x224x1x3_S32x224x224x1x3_S32x224x224x1x3_S32x224x224x1x3_S32x224x224x1x3_S32x224x224x1x3_S32x224x224x1x3_S32x224x224x1x3_S32x224x224x9x3_d3

/-- The 27 values around every pixel. -/
def rPatch (P : FVec Ideal S32x226x226x3 .f32) : FVec Ideal S32x224x224x27 .f32 :=
  shapeCast S32x224x224x27 (cat P) shapeCasts_S32x224x224x9x3_S32x224x224x27

/-- Their median. -/
def rMed (X : FVec Ideal S32x224x224x3 .f32) : FVec Ideal S32x224x224 .f32 :=
  shapeCast S32x224x224 (extractStridedSlice S32x224x224x1 ![0, 0, 0, 13]
    (Host.sort S32x224x224x27 3 (comparator_f32_d3 (F := Ideal)) (rPatch (rPad X))) slices_S32x224x224x27_S32x224x224x1_0_0_0_13)
    shapeCasts_S32x224x224x1_S32x224x224

/-- An entry of one shifted copy. -/
theorem piece_at (P : FVec Ideal S32x226x226x3 .f32) (n : Fin 9) (b : Fin 32) (r s : Fin 224) (c : Fin 3) :
    piece P n (ix5 b r s 0 c) = P (ix4 b ⟨n.val / 3 + r.val, by omega⟩ ⟨n.val % 3 + s.val, by omega⟩ c) := by
  pointwise [piece, shifted]

/-- An entry of the nine copies side by side. -/
theorem cat_at (P : FVec Ideal S32x226x226x3 .f32) (n : Fin 9) (b : Fin 32) (r s : Fin 224) (c : Fin 3) :
    cat P (ix5 b r s n c) = piece P n (ix5 b r s 0 c) := by
  pointwise [cat]

/-- An entry of the 27 values around a pixel: the shift is the quotient by three, the channel the remainder. -/
theorem patch_at (P : FVec Ideal S32x226x226x3 .f32) (b : Fin 32) (r s : Fin 224) (q : Fin 27) :
    rPatch P (ix4 b r s q)
      = P (ix4 b ⟨q.val / 9 + r.val, by omega⟩ ⟨q.val / 3 % 3 + s.val, by omega⟩ ⟨q.val % 3, by omega⟩) := by
  have e := (cat_at P ⟨q.val / 3, by omega⟩ b r s ⟨q.val % 3, by omega⟩).trans (piece_at P _ b r s _)
  refine Eq.trans ?_ (e.trans ?_)
  · pointwise [rPatch]
  · exact congrArg (fun t => P (ix4 b t ⟨q.val / 3 % 3 + s.val, by omega⟩ ⟨q.val % 3, by omega⟩))
      (Fin.ext (by show q.val / 3 / 3 + r.val = q.val / 9 + r.val; omega))

/-- An entry of the kernel's padded images: the reference's, with the channel moved back to the end. -/
theorem padX_at (X : FVec Ideal S32x224x224x3 .f32) (b : Fin 32) (c : Fin 3) (r s : Fin 226) :
    padX X (ix4 b c r s) = rPad X (ix4 b r s c) := by
  pointwise [padX, rPad]

/-- Ordering by the comparator is ordering by size. -/
theorem comparator_eq (l r : EReal) : (comparator_f32_d3 (F := Ideal) l r == 1#1) = decide (l < r) := by
  unfold comparator_f32_d3
  pointwise
  have e : ∀ x : EReal, (if x ≠ x then Ideal.ofBits FTy.f32 2143289344#32 else if x = 0 then 0 else x) = x := fun x => by
    rw [if_neg (fun h => h rfl)]; split
    · rename_i h; exact h.symm
    · rfl
  rw [e l, e r, Ideal.cmpfTotal_def]
  by_cases h : l < r <;> simp [Ideal.cmp, CmpDirection.ordered, h]

/-- Places of the 27 values, offsets first, to places of the taps, channels first. -/
def toTap : Fin 27 ≃ Fin 27 where
  toFun q := ⟨q.val % 3 * 9 + q.val / 3, by omega⟩
  invFun k := ⟨k.val % 9 * 3 + k.val / 9, by omega⟩
  left_inv q := Fin.ext (by show (q.val % 3 * 9 + q.val / 3) % 9 * 3 + (q.val % 3 * 9 + q.val / 3) / 9 = q.val; omega)
  right_inv k := Fin.ext (by show (k.val % 9 * 3 + k.val / 9) % 3 * 9 + (k.val % 9 * 3 + k.val / 9) / 3 = k.val; omega)

/-- The three digits of a tap. -/
theorem tap_digits : ∀ q : Fin 27, (toTap q).val / 3 % 3 = q.val / 9 ∧ (toTap q).val % 3 = q.val / 3 % 3 ∧ (toTap q).val / 9 = q.val % 3 := by
  decide

/-- The reference's 27 values are the kernel's taps, in another order. -/
theorem patch_tap (X : FVec Ideal S32x224x224x3 .f32) (b : Fin 32) (r s : Fin 224) (q : Fin 27) :
    rPatch (rPad X) (ix4 b r s q) = tapAt (padX X) b r s (toTap q).val := by
  unfold tapAt
  rw [dif_pos (toTap q).isLt, padX_at, patch_at]
  refine congrArg (rPad X) ?_
  have h1 := tap_digits q
  congr 1 <;> apply Fin.ext
  · show q.val / 9 + r.val = (toTap q).val / 3 % 3 + r.val
    omega
  · show q.val / 3 % 3 + s.val = (toTap q).val % 3 + s.val
    omega
  · show q.val % 3 = (toTap q).val / 9
    omega

/-- A sort read at an index: the entry at the sorted place along the axis. -/
theorem sort_along {t : Shape} {α : Type} (d : Nat) (hd : d < t.rank) (cmp : α → α → BitVec 1) (x : t.Idx → α) (j : t.Idx) :
    Host.sort t d cmp x j = x (j.along ⟨d, hd⟩
      (sortedFrom (fun k k' => cmp (x (j.along ⟨d, hd⟩ k)) (x (j.along ⟨d, hd⟩ k')) == 1#1) (j ⟨d, hd⟩))) :=
  dif_pos hd

/-- Moving along the last axis. -/
theorem along_last (b : Fin 32) (r s : Fin 224) (i k : Fin 27) (hd : 3 < S32x224x224x27.rank) :
    Shape.Idx.along (s := S32x224x224x27) (ix4 b r s i) ⟨3, hd⟩ k = ix4 b r s k := by
  funext d
  fin_cases d <;> rfl

/-- A sort along the last axis, read at an index. -/
theorem sort_row {α : Type} (cmp : α → α → BitVec 1) (x : S32x224x224x27.Idx → α) (b : Fin 32) (r s : Fin 224) (i : Fin 27) :
    Host.sort S32x224x224x27 3 cmp x (ix4 b r s i)
      = x (ix4 b r s (sortedFrom (fun k k' => cmp (x (ix4 b r s k)) (x (ix4 b r s k')) == 1#1) i)) := by
  refine (sort_along 3 (by decide) cmp x (ix4 b r s i)).trans ?_
  refine (congrArg x (along_last b r s i _ _)).trans ?_
  refine congrArg (fun R : Fin 27 → Fin 27 → Bool => x (ix4 b r s (sortedFrom R i))) ?_
  funext k k'
  exact congrArg₂ (fun p q => cmp (x p) (x q) == 1#1) (along_last b r s i k _) (along_last b r s i k' _)

/-- Sorting a row of extended reals lists it in ascending order. -/
theorem sorted_mono (v : Fin 27 → EReal) :
    Monotone fun i => v (sortedFrom (fun k k' => comparator_f32_d3 (F := Ideal) (v k) (v k') == 1#1) i) := by
  intro i j hij
  rcases hij.eq_or_lt with e | h
  · rw [e]
  · have := sortedFrom_noInversion (fun k k' => decide (v k < v k')) (fun k k' => comparator_f32_d3 (F := Ideal) (v k) (v k') == 1#1)
      (fun a b hab => by rw [comparator_eq] at hab; exact decide_eq_false (lt_asymm (of_decide_eq_true hab)))
      (fun a b hab => (comparator_eq _ _).trans hab)
      (fun a b c h1 h2 => decide_eq_false (not_lt.mpr (le_trans (not_lt.mp (of_decide_eq_false h2)) (not_lt.mp (of_decide_eq_false h1))))) i j h
    exact not_lt.mp (of_decide_eq_false this)

/-- The middle of a sorted row is what the network leaves in its middle, whatever order the row is read in. -/
theorem mid_eq (v : Fin 27 → EReal) (T : Nat → EReal) (hT : ∀ k, 27 ≤ k → T k = ⊤) (h : ∀ q, v q = T (toTap q).val) :
    v (sortedFrom (fun k k' => comparator_f32_d3 (F := Ideal) (v k) (v k') == 1#1) 13) = wire min max netPairs.reverse T 13 := by
  have hm := sorted_mono v
  have hσ : Function.Bijective (sortedFrom (fun k k' => comparator_f32_d3 (F := Ideal) (v k) (v k') == 1#1)) :=
    ⟨sortedFrom_injective _, sortedFrom_surjective _⟩
  generalize sortedFrom (fun k k' => comparator_f32_d3 (F := Ideal) (v k) (v k') == 1#1) = σ at hm hσ ⊢
  simp only [h] at hm
  exact (h _).trans (medWire_eq T hT ((Equiv.ofBijective σ hσ).trans toTap) hm 13).symm

/-- The reference's median at a pixel is the kernel's. -/
theorem med_at (X : FVec Ideal S32x224x224x3 .f32) (b : Fin 32) (r s : Fin 224) :
    rMed X (ix3 b r s) = medAt (padX X) b r s := by
  have e : rMed X (ix3 b r s) = Host.sort S32x224x224x27 3 (comparator_f32_d3 (F := Ideal)) (rPatch (rPad X)) (ix4 b r s 13) := by
    pointwise [rMed]
  refine e.trans ((sort_row _ _ b r s 13).trans ?_)
  exact mid_eq (fun k => rPatch (rPad X) (ix4 b r s k)) _ (fun k hk => dif_neg (by omega)) (patch_tap X b r s)

end Cert.ReferenceIdeal.Value

end
-- ==== Proof.RefRun.lean ====
/-
  The whole run of the reference: its result as a function `rOut` of the two arguments, with the arguments unchanged and the
  counters at zero.
-/
module

public import proofs.«01_k».proof.Proof.RefMed
public import Idealize.ShloMosaic.Lib.Claim
public import Idealize.ShloMosaic.Lib.Quiescent
public import Idealize.ShloMosaic.Lib.StableHlo.RunRead

@[expose] public section

set_option maxRecDepth 16384

noncomputable section

namespace Cert.ReferenceIdeal.Value

open Cert.ReferenceIdeal Cert.ReferenceIdeal.Gen Idealize.ShloMosaic Cert.Med
open Idealize.ShloMosaic.TcCoe Idealize.SL.Sem

/-- The medians, with a channel axis. -/
def rMed4 (X : FVec Ideal S32x224x224x3 .f32) : FVec Ideal S32x224x224x1 .f32 :=
  broadcastInDim S32x224x224x1 ![0, 1, 2] bcast_S32x224x224_S32x224x224x1_0_1_2 (rMed X)

/-- Their mean. -/
def rMean (M : FVec Ideal S32x224x224x1 .f32) : FVec Ideal S1x1x1x1 .f32 :=
  Host.divf (broadcastInDim S1x1x1x1 ![3] bcast_S1_S1x1x1x1_3
      (Host.reduceAdd M (constant S_ .f32 0x00000000#32) reducesTo_S32x224x224x1_S1_d0_1_2 h_S_))
    (broadcastInDim S1x1x1x1 ![] bcast_S_S1x1x1x1 (constant S_ .f32 0x49C40000#32))

/-- The centred medians, padded with zeros. -/
def rCent (M : FVec Ideal S32x224x224x1 .f32) : FVec Ideal S32x226x226x1 .f32 :=
  pad S32x226x226x1 ![0, 1, 1, 0] ![0, 1, 1, 0] ![0, 0, 0, 0]
    (subf M (broadcastInDim S32x224x224x1 ![0, 1, 2, 3] bcast_S1x1x1x1_S32x224x224x1_0_1_2_3 (rMean M)))
    (sitofp .f32 (constantI S_ 32 0#32)) pads_S32x224x224x1_S32x226x226x1_000_110_110_000 h_S_

/-- One of the convolution's nine products. -/
def rTerm (C : FVec Ideal S32x226x226x1 .f32) (w : FVec Ideal S3x3x1x64 .f32) (n : Fin 9) : FVec Ideal S32x224x224x64 .f32 :=
  mulf (broadcastInDim S32x224x224x64 ![0, 1, 2, 3] bcast_S32x224x224x1_S32x224x224x64_0_1_2_3
      (extractStridedSlice S32x224x224x1 ![0, n.val / 3, n.val % 3, 0] C
        ((by decide : ∀ n : Fin 9, S32x226x226x1.Slices ![0, n.val / 3, n.val % 3, 0] S32x224x224x1) n)))
    (broadcastInDim S32x224x224x64 ![0, 1, 2, 3] bcast_S1x1x1x64_S32x224x224x64_0_1_2_3
      (broadcastInDim S1x1x1x64 ![3] bcast_S64_S1x1x1x64_3
        (shapeCast S64 (extractStridedSlice S1x1x1x64 ![n.val / 3, n.val % 3, 0, 0] w
          ((by decide : ∀ n : Fin 9, S3x3x1x64.Slices ![n.val / 3, n.val % 3, 0, 0] S1x1x1x64) n)) shapeCasts_S1x1x1x64_S64)))

/-- The convolution: the nine products added up. -/
def rConv (C : FVec Ideal S32x226x226x1 .f32) (w : FVec Ideal S3x3x1x64 .f32) : FVec Ideal S32x224x224x64 .f32 :=
  addf (addf (addf (addf (addf (addf (addf (addf (addf (broadcastInDim S32x224x224x64 ![] bcast_S_S32x224x224x64 (constant S_ .f32 0x00000000#32))
    (rTerm C w 0)) (rTerm C w 1)) (rTerm C w 2)) (rTerm C w 3)) (rTerm C w 4)) (rTerm C w 5)) (rTerm C w 6)) (rTerm C w 7)) (rTerm C w 8)

/-- The reference's result. -/
def rOut (X : FVec Ideal S32x224x224x3 .f32) (w : FVec Ideal S3x3x1x64 .f32) : FVec Ideal S32x224x224x64 .f32 :=
  rConv (rCent (rMed4 X)) w

/-- The program's operations, in order. -/
def line : { ops : List (HloOp τ sig (Elt Ideal)) // ∀ d, StableHlo.IsSeq (main (F := Ideal) d) ops } := by
  apply Subtype.mk
  hlo_seq

/-- A list of nine. -/
theorem ofFn_nine {α : Type} (f : Fin 9 → α) : List.ofFn f = [f 0, f 1, f 2, f 3, f 4, f 5, f 6, f 7, f 8] := rfl

/-- After the first 22 operations: the nine shifts stand side by side in `main_v19`. -/
theorem head_cat (V : Valuation τ sig (Elt Ideal)) :
    StableHlo.after (line.1.take 22) V (Proc.devRef .tc main_v19) = cat (rPad (V (Proc.devRef .tc main_arg0))) := by
  unfold line
  simp only [List.take_succ_cons, List.take_zero]
  after_reads_simp
  refine StableHlo.concatenate_congr _ _ ?_ _ _
  simp only [Matrix.cons_val]
  after_reads_simp
  rfl

/-- The next five take the median of each 27 values, -/
theorem head_med (V : Valuation τ sig (Elt Ideal)) :
    StableHlo.after ((line.1.drop 22).take 5) V (Proc.devRef .tc main_v24)
      = broadcastInDim S32x224x224x1 ![0, 1, 2] bcast_S32x224x224_S32x224x224x1_0_1_2
          (shapeCast S32x224x224 (extractStridedSlice S32x224x224x1 ![0, 0, 0, 13]
            (Host.sort S32x224x224x27 3 (comparator_f32_d3 (F := Ideal))
              (shapeCast S32x224x224x27 (V (Proc.devRef .tc main_v19)) shapeCasts_S32x224x224x9x3_S32x224x224x27))
            slices_S32x224x224x27_S32x224x224x1_0_0_0_13) shapeCasts_S32x224x224x1_S32x224x224) := by
  unfold line
  simp only [List.drop_succ_cons, List.drop_zero, List.take_succ_cons, List.take_zero]
  after_reads_simp
  rfl

/-- and eleven more centre and pad the medians. -/
theorem head_cent (V : Valuation τ sig (Elt Ideal)) :
    StableHlo.after ((line.1.drop 27).take 11) V (Proc.devRef .tc main_v31) = rCent (V (Proc.devRef .tc main_v24)) := by
  unfold line
  simp only [List.drop_succ_cons, List.drop_zero, List.take_succ_cons, List.take_zero]
  after_reads_simp
  rfl

/-- The weights are where they were. -/
theorem head_w (V : Valuation τ sig (Elt Ideal)) :
    StableHlo.after ((line.1.drop 27).take 11) (StableHlo.after ((line.1.drop 22).take 5) (StableHlo.after (line.1.take 22) V))
      (Proc.devRef .tc main_arg1) = V (Proc.devRef .tc main_arg1) := by
  unfold line
  simp only [List.drop_succ_cons, List.drop_zero, List.take_succ_cons, List.take_zero]
  after_reads_simp

set_option maxHeartbeats 2000000 in
/-- The rest convolves. -/
theorem tail_conv (V : Valuation τ sig (Elt Ideal)) :
    StableHlo.after (line.1.drop 38) V (Proc.devRef .tc main_v104)
      = rConv (V (Proc.devRef .tc main_v31)) (V (Proc.devRef .tc main_arg1)) := by
  unfold line
  simp only [List.drop_succ_cons, List.drop_zero]
  after_reads_simp
  rfl

/-- A line of operations runs as its first `n` and then the others. -/
theorem after_split (n : Nat) (ops : List (HloOp τ sig (Elt Ideal))) (V : Valuation τ sig (Elt Ideal)) :
    StableHlo.after ops V = StableHlo.after (ops.drop n) (StableHlo.after (ops.take n) V) := by
  induction n generalizing ops V with
  | zero => rfl
  | succ n ih =>
    cases ops with
    | nil => rfl
    | cons a l => exact ih l _

variable (m : (ℓ : Loc nD τ sig) → Buf (Elt Ideal) ℓ) (ρ : Dev nD → PrngReg)

/-- The program runs to the contents its operations compute. -/
theorem run_line : θ_run defs (onTc (τ := τ) (main (F := Ideal))) ⟨m, fun _ => 0, ρ⟩ (fun r => ∀ (c : Dev nD) (b : Ref sig .tc),
      r.2.mem ((c.tc : Thread nD τ).loc b) = StableHlo.after line.1 (StableHlo.launchContents m c) (Proc.devRef .tc b)) :=
  StableHlo.run_hlo defs main line.2 (by decide) (by decide) (by unfold line; simp)
    (by unfold line; intro _ h; (repeat (cases h with | head => rfl | tail _ h => ?_)); exact nomatch h) m ρ

/-- The run leaves the images alone. -/
theorem line_arg0 (V : Valuation τ sig (Elt Ideal)) :
    StableHlo.after line.1 V (Proc.devRef .tc main_arg0) = V (Proc.devRef .tc main_arg0) := by
  unfold line
  after_reads_simp

/-- The run leaves the weights alone. -/
theorem line_arg1 (V : Valuation τ sig (Elt Ideal)) :
    StableHlo.after line.1 V (Proc.devRef .tc main_arg1) = V (Proc.devRef .tc main_arg1) := by
  unfold line
  after_reads_simp

/-- The run: the result at `rOut` of the arguments, the arguments unchanged, every counter at zero. -/
theorem run_value : θ_run defs (onTc (τ := τ) (main (F := Ideal))) ⟨m, fun _ => 0, ρ⟩ (fun r => (∀ c : Dev nD,
      r.2.mem ((c.tc : Thread nD τ).loc main_v104) = rOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine θ_run_mono (run_line m ρ) fun r h => ⟨fun c => ⟨(h c main_v104).trans ?_, (h c main_arg0).trans (line_arg0 _),
    (h c main_arg1).trans (line_arg1 _)⟩, sem_eq_zero_of_no_sems (by decide) _⟩
  rw [after_split 22 line.1, after_split 5 (line.1.drop 22), List.drop_drop, after_split 11 (line.1.drop (22 + 5)), List.drop_drop]
  refine (tail_conv _).trans ?_
  rw [head_w, head_cent, head_med, head_cat]
  rfl

end Cert.ReferenceIdeal.Value

end
-- ==== Proof.Final.lean ====
/-
  The kernel's result is the reference's where every entry of the images is finite: then the mean is finite, and the mean minus
  itself, which the kernel has on the border, is the zero that the reference has there.
-/
module

public import proofs.«01_k».proof.Proof.RefRun
public import proofs.«01_k».proof.Pre_finite_x
public import Idealize.ShloMosaic.Lib.Pipeline.ValueKit

@[expose] public section

set_option maxRecDepth 16384

noncomputable section

namespace Cert.ReferenceIdeal.Value

open Cert.ReferenceIdeal Cert.ReferenceIdeal.Gen Idealize.ShloMosaic Cert.Med
open Cert.KernelIdeal.Gen (padX tapAt medAt medArr sumArr meanK padM convArr kout)

/-- One of the nine products, read at an index. -/
theorem rTerm_at (C : FVec Ideal S32x226x226x1 .f32) (w : FVec Ideal S3x3x1x64 .f32) (n : Fin 9) (b : Fin 32) (r s : Fin 224)
    (f : Fin 64) :
    rTerm C w n (ix4 b r s f) = C (ix4 b ⟨n.val / 3 + r.val, by omega⟩ ⟨n.val % 3 + s.val, by omega⟩ 0)
      * w (ix4 ⟨n.val / 3, by omega⟩ ⟨n.val % 3, by omega⟩ 0 f) := by
  pointwise [rTerm]

/-- The reference's convolution, as one sum. -/
theorem rConv_at (C : FVec Ideal S32x226x226x1 .f32) (w : FVec Ideal S3x3x1x64 .f32) (b : Fin 32) (r s : Fin 224) (f : Fin 64) :
    rConv C w (ix4 b r s f) = ∑ n : Fin 9, rTerm C w n (ix4 b r s f) := by
  rw [Fin.sum_univ_castSucc, Fin.sum_univ_eight]
  pointwise [rConv]
  rfl

/-- The kernel's mean: all medians added up, over their number. -/
theorem meanK_at (P : FVec Ideal Cert.KernelIdeal.S32x3x226x226 .f32) (j : S_.Idx) :
    meanK P j = Ideal.div (∑ b : Fin 32, ∑ r : Fin 224, ∑ s : Fin 224, medAt P b r s) (Ideal.ofBits .f32 0x49C40000#32) := by
  pointwise [meanK]
  refine congrArg (fun t => Ideal.div t _) (Finset.sum_congr rfl fun b _ => ?_)
  rw [Fin.sum_univ_one, Finset.sum_comm]
  rfl

/-- The reference's mean is the same. -/
theorem rMean_at (X : FVec Ideal S32x224x224x3 .f32) (j : S1x1x1x1.Idx) :
    rMean (rMed4 X) j = Ideal.div (∑ b : Fin 32, ∑ r : Fin 224, ∑ s : Fin 224, medAt (padX X) b r s) (Ideal.ofBits .f32 0x49C40000#32) := by
  have e : ∀ b r s, rMed4 X (ix4 b r s 0) = rMed X (ix3 b r s) := fun b r s => by pointwise [rMed4]
  pointwise [rMean]
  refine congrArg (fun t => Ideal.div t _) ?_
  refine (Ideal.hostReduceAdd_total _ (by decide) _ _ _).trans ?_
  rw [zero_add, sum_idx4]
  refine Finset.sum_congr rfl fun b _ => Finset.sum_congr rfl fun r _ => Finset.sum_congr rfl fun s _ => ?_
  rw [Fin.sum_univ_one, e, med_at]

/-- Being a real number. -/
def IsReal (a : EReal) : Prop := ∃ t : ℝ, a = t

/-- Zero is a real number. -/
theorem isReal_zero : IsReal 0 := ⟨0, rfl⟩

/-- The sum of two reals is a real. -/
theorem isReal_add {a b : EReal} (ha : IsReal a) (hb : IsReal b) : IsReal (a + b) := by
  obtain ⟨x, rfl⟩ := ha
  obtain ⟨y, rfl⟩ := hb
  exact ⟨x + y, rfl⟩

/-- A finite sum of reals is a real. -/
theorem isReal_sum {n : Nat} (f : Fin n → EReal) (h : ∀ k, IsReal (f k)) : IsReal (∑ k, f k) :=
  Finset.sum_induction f IsReal (fun _ _ => isReal_add) isReal_zero fun k _ => h k

/-- Less than infinity in absolute value: a real number. -/
theorem isReal_of_abs {a : EReal} (h : max a (-a) < ⊤) : IsReal a := by
  induction a with
  | bot => simp at h
  | top => simp at h
  | coe t => exact ⟨t, rfl⟩

/-- A real number less itself is zero. -/
theorem isReal_sub_self {a : EReal} (h : IsReal a) : a - a = 0 := by
  obtain ⟨x, rfl⟩ := h
  rw [← EReal.coe_sub, sub_self]
  rfl

/-- The number of pixels. -/
theorem count_eq : Ideal.ofBits .f32 0x49C40000#32 = ((1605632 : ℝ) : EReal) := by
  simp [Ideal.ofBits, Ideal.ieee]
  rw [← EReal.coe_mul]
  norm_num

/-- A real divided by the number of pixels is a real. -/
theorem isReal_mean {a : EReal} (h : IsReal a) : IsReal (Ideal.div a (Ideal.ofBits .f32 0x49C40000#32)) := by
  obtain ⟨x, rfl⟩ := h
  rw [count_eq]
  unfold Ideal.div
  rw [if_neg (by norm_num)]
  exact ⟨x * (1605632 : ℝ)⁻¹, rfl⟩

/-- The padding value. -/
theorem zero_word : FloatOps.sitofp (F := Ideal) .f32 (0#32 : BitVec 32) = 0 := by
  show (((0#32 : BitVec 32).toInt : ℝ) : EReal) = 0
  simp

/-- Padding keeps the entries real. -/
theorem isReal_pad (X : FVec Ideal S32x224x224x3 .f32) (h : ∀ i, IsReal (X i)) (i : S32x226x226x3.Idx) : IsReal (rPad X i) := by
  idx_vars i
  pointwise [rPad]
  split
  · exact h _
  · rw [zero_word]
    exact isReal_zero

/-- The median of real numbers is real: it is one of them. -/
theorem isReal_med (X : FVec Ideal S32x224x224x3 .f32) (h : ∀ i, IsReal (X i)) (b : Fin 32) (r s : Fin 224) :
    IsReal (medAt (padX X) b r s) := by
  have e : rMed X (ix3 b r s) = Host.sort S32x224x224x27 3 (comparator_f32_d3 (F := Ideal)) (rPatch (rPad X)) (ix4 b r s 13) := by
    pointwise [rMed]
  rw [← med_at, e.trans (sort_row _ _ b r s 13), patch_at]
  exact isReal_pad X h _

/-- So the mean of the medians is real. -/
theorem isReal_meanK (X : FVec Ideal S32x224x224x3 .f32) (h : ∀ i, IsReal (X i)) (j : S_.Idx) : IsReal (meanK (padX X) j) := by
  rw [meanK_at]
  exact isReal_mean (isReal_sum _ fun b => isReal_sum _ fun r => isReal_sum _ fun s => isReal_med X h b r s)

/-- A pixel of the padded image inside its border. -/
abbrev Inside (r s : Fin 226) : Prop := (1 ≤ r.val ∧ r.val - 1 < 224) ∧ 1 ≤ s.val ∧ s.val - 1 < 224

/-- An entry of the kernel's bordered medians: a median inside, the mean on the border. -/
theorem padM_at (P : FVec Ideal Cert.KernelIdeal.S32x3x226x226 .f32) (b : Fin 32) (r s : Fin 226) :
    padM P (ix3 b ⟨r.val, by omega⟩ s) = if h : Inside r s then medArr P (ix3 b ⟨r.val - 1, h.1.2⟩ ⟨s.val - 1, h.2.2⟩)
      else meanK P (Shape.Idx.first Cert.KernelIdeal.Gen.h_S_) := by
  pointwise [padM]

/-- An entry of the reference's centred and padded medians: a median minus the mean inside, zero on the border. -/
theorem rCent_at (M : FVec Ideal S32x224x224x1 .f32) (b : Fin 32) (r s : Fin 226) :
    rCent M (ix4 b r s 0) = if h : Inside r s then M (ix4 b ⟨r.val - 1, h.1.2⟩ ⟨s.val - 1, h.2.2⟩ 0) - rMean M (ix4 0 0 0 0)
      else 0 := by
  pointwise [rCent]
  rw [zero_word]

/-- The medians are the same, and so are the means. -/
theorem rMed4_at (X : FVec Ideal S32x224x224x3 .f32) (b : Fin 32) (r s : Fin 224) :
    rMed4 X (ix4 b r s 0) = medArr (padX X) (ix3 b r s) := by
  refine Eq.trans (b := rMed X (ix3 b r s)) ?_ (med_at X b r s)
  pointwise [rMed4]

/-- The kernel's mean is the reference's. -/
theorem mean_eq (X : FVec Ideal S32x224x224x3 .f32) (j : S_.Idx) (j' : S1x1x1x1.Idx) : meanK (padX X) j = rMean (rMed4 X) j' :=
  (meanK_at _ j).trans (rMean_at X j').symm

/-- What the kernel convolves is what the reference convolves: inside, a median less the mean; on the border, zero. -/
theorem cell_eq (X : FVec Ideal S32x224x224x3 .f32) (h : ∀ i, IsReal (X i)) (b : Fin 32) (r s : Fin 226) (j : S_.Idx) :
    padM (padX X) (ix3 b ⟨r.val, by omega⟩ s) - meanK (padX X) j = rCent (rMed4 X) (ix4 b r s 0) := by
  rw [padM_at, rCent_at]
  split
  · rw [rMed4_at, mean_eq X j (ix4 0 0 0 0)]
  · rw [mean_eq X _ (ix4 0 0 0 0), ← mean_eq X j]
    exact isReal_sub_self (isReal_meanK X h j)

/-- The kernel's result, read at an index. -/
theorem kout_at (X : FVec Ideal S32x224x224x3 .f32) (w : FVec Ideal S3x3x1x64 .f32) (b : Fin 32) (r s : Fin 224) (f : Fin 64) :
    kout X w (ix4 b r s f) = ∑ k : Fin 9, (padM (padX X) (ix3 b ⟨k.val / 3 + r.val, by omega⟩ ⟨k.val % 3 + s.val, by omega⟩)
      - meanK (padX X) (fun a => a.elim0)) * w (ix4 ⟨k.val / 3, by omega⟩ ⟨k.val % 3, by omega⟩ 0 f) := by
  unfold kout convArr
  refine Finset.sum_congr rfl fun k _ => Ideal.mul_congr (congrArg₂ (fun a b : EReal => a - b) rfl ?_) ?_
  · pointwise
    exact congrArg (meanK (padX X)) (funext fun a => a.elim0)
  · pointwise

/-- The two results are equal. -/
theorem out_eq (X : FVec Ideal S32x224x224x3 .f32) (w : FVec Ideal S3x3x1x64 .f32) (h : ∀ i, IsReal (X i)) : kout X w = rOut X w := by
  funext i
  idx_vars i
  refine (kout_at X w _ _ _ _).trans (Eq.trans ?_ (rConv_at _ w _ _ _ _).symm)
  refine Finset.sum_congr rfl fun k _ => Eq.trans ?_ (rTerm_at _ w k _ _ _ _).symm
  exact Ideal.mul_congr (cell_eq X h _ ⟨k.val / 3 + _, by omega⟩ ⟨k.val % 3 + _, by omega⟩ _) rfl

/-- The precondition's meaning. -/
theorem isReal_of_pre [Cert.Pre_finite_x.Facts] (X : FVec Ideal S32x224x224x3 .f32) (w : FVec Ideal S3x3x1x64 .f32)
    (h : Cert.Pre_finite_x.fn (F := Ideal) X w = fun _ => 1#1) (i : S32x224x224x3.Idx) : IsReal (X i) := by
  have h1 := congrFun h i
  unfold Cert.Pre_finite_x.fn at h1
  refine isReal_of_abs ?_
  by_contra hlt
  idx_vars i
  pointwise at h1
  have ht : Ideal.ofBits .f32 2139095040#32 = ⊤ := by simp [Ideal.ofBits, Ideal.ieee]
  rw [ht, Ideal.absf_def, decide_eq_false hlt] at h1
  exact absurd h1 (by decide)

end Cert.ReferenceIdeal.Value

end
-- ==== Proof.lean ====
/- The five claims: the frames of the kernel and of the two idealized programs, the idealization's trace, and the equality of
   the idealized kernel's result with the idealized reference's. -/
module

public import proofs.«01_k».proof.Defs
public import proofs.«01_k».proof.Proof.Gen.Kernel.Frame
public import proofs.«01_k».proof.Proof.Gen.KernelIdeal.Frame
public import proofs.«01_k».proof.Proof.Final
public import Idealize.ShloMosaic.Lib.Claim

@[expose] public section

noncomputable section

namespace Cert.Proof

open Idealize.ShloMosaic Idealize.SL.Sem

/-- The precondition's one fact: a number broadcasts to the images' shape. -/
theorem pre_facts : Cert.Pre_finite_x.Facts := ⟨by decide⟩

/-- The kernel's result is the reference's. -/
theorem algebraic : Cert.algebraic_KernelIdeal_ReferenceIdeal_pre_finite_x (hKernelIdeal := Cert.KernelIdeal.Gen.facts)
    (hReferenceIdeal := Cert.ReferenceIdeal.Gen.facts) (hPre_finite_x := pre_facts) := by
  intro m g m' g' hpre hagree
  refine ⟨fun c => Cert.KernelIdeal.Gen.kout (m (c.tc.loc Cert.KernelIdeal.main_arg0)) (m (c.tc.loc Cert.KernelIdeal.main_arg1)),
    θ_run_mono (Cert.KernelIdeal.Gen.run_value m g) fun r h c => ⟨(h.1 c).2.2, (h.1 c).1, (h.1 c).2.1⟩,
    θ_run_mono (Cert.ReferenceIdeal.Value.run_value m' g') fun r h c => ⟨(h.1 c).1.trans ?_, (h.1 c).2⟩⟩
  rw [(hagree c).1, (hagree c).2]
  letI := pre_facts
  exact (Cert.ReferenceIdeal.Value.out_eq _ _ (Cert.ReferenceIdeal.Value.isReal_of_pre _ _ (hpre c))).symm

/-- The reference leaves its arguments alone and every counter at zero. -/
theorem reference_frame : Cert.quiescent_ReferenceIdeal (hReferenceIdeal := Cert.ReferenceIdeal.Gen.facts) := fun m g _ =>
  θ_run_mono (Cert.ReferenceIdeal.Value.run_value m g) fun r h => ⟨fun c => (h.1 c).2, h.2⟩

theorem claim : Cert.Claim :=
  ⟨Cert.Kernel.Gen.facts, Cert.KernelIdeal.Gen.facts, Cert.ReferenceIdeal.Gen.facts, pre_facts,
    fun m g _ => Cert.Kernel.Gen.frame m g, fun m g _ => Cert.KernelIdeal.Gen.frame m g, fun m g _ => Cert.KernelIdeal.Gen.frame m g,
    reference_frame, fun m g _ => reference_frame m g trivial, trivial, algebraic⟩

end Cert.Proof

end
